-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32768x256 : Shape := ⟨3, ![8, 32768, 256]⟩
abbrev S8x32768 : Shape := ⟨2, ![8, 32768]⟩
abbrev S8x256x32x32 : Shape := ⟨4, ![8, 256, 32, 32]⟩
abbrev S8x10x256 : Shape := ⟨3, ![8, 10, 256]⟩
abbrev S1x1024x256 : Shape := ⟨3, ![1, 1024, 256]⟩
abbrev S1x10x256 : Shape := ⟨3, ![1, 10, 256]⟩
abbrev S10x256 : Shape := ⟨2, ![10, 256]⟩
abbrev S1024x256 : Shape := ⟨2, ![1024, 256]⟩
abbrev S1034x256 : Shape := ⟨2, ![1034, 256]⟩
abbrev S256 : Shape := ⟨1, ![256]⟩
abbrev S1x256 : Shape := ⟨2, ![1, 256]⟩

abbrev nBuf : Space → Nat
  | .hbm => 4
  | .vmem => 4
  | .smem => 0
  | _ => 0

abbrev bufTy : (tb : Table) → Fin (tcTables nBuf tb) → BufTy
  | .hbm, ⟨0, _⟩ => ⟨S8x32768x256, .f32⟩
  | .hbm, ⟨1, _⟩ => ⟨S8x32768, .f32⟩
  | .hbm, ⟨2, _⟩ => ⟨S8x256x32x32, .f32⟩
  | .hbm, ⟨3, _⟩ => ⟨S8x10x256, .f32⟩
  | .local _ .vmem, ⟨0, _⟩ => ⟨S1x1024x256, .f32⟩
  | .local _ .vmem, ⟨1, _⟩ => ⟨S1x1024x256, .f32⟩
  | .local _ .vmem, ⟨2, _⟩ => ⟨S1x10x256, .f32⟩
  | .local _ .vmem, ⟨3, _⟩ => ⟨S1x10x256, .f32⟩
  | _, _ => ⟨S8x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S8x32768x256 : Shape := ⟨3, ![8, 32768, 256]⟩
abbrev S8x32768 : Shape := ⟨2, ![8, 32768]⟩
abbrev S8x256x32x32 : Shape := ⟨4, ![8, 256, 32, 32]⟩
abbrev S8x256x32768 : Shape := ⟨3, ![8, 256, 32768]⟩
abbrev S8x256x10 : Shape := ⟨3, ![8, 256, 10]⟩
abbrev S8x10x256 : Shape := ⟨3, ![8, 10, 256]⟩

abbrev nBuf : Space → Nat
  | .hbm => 7
  | .vmem => 0
  | .smem => 0
  | _ => 0

abbrev bufTy : (tb : Table) → Fin (tcTables nBuf tb) → BufTy
  | .hbm, ⟨0, _⟩ => ⟨S8x32768x256, .f32⟩
  | .hbm, ⟨1, _⟩ => ⟨S8x32768, .f32⟩
  | .hbm, ⟨2, _⟩ => ⟨S8x256x32x32, .f32⟩
  | .hbm, ⟨3, _⟩ => ⟨S8x256x32768, .f32⟩
  | .hbm, ⟨4, _⟩ => ⟨S8x256x10, .f32⟩
  | .hbm, ⟨5, _⟩ => ⟨S8x256x10, .i32⟩
  | .hbm, ⟨6, _⟩ => ⟨S8x10x256, .f32⟩
  | _, _ => ⟨S8x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.Rank.lean ====
/-
  Order statistics of extended reals by counting.

  The `r`-th greatest entry of a column (`r` from zero) is the one value `v` with: for every threshold `t` above `⊥`,
  `t ≤ v` exactly when more than `r` entries of the column reach `t`. Nothing here mentions a program: a column is a
  function from `Fin n`, and `reach x t` counts its entries that are at least `t`.
-/
module

public import Mathlib.Data.EReal.Basic
public import Mathlib.Algebra.BigOperators.Fin
public import Mathlib.Data.Finset.Max
public import Mathlib.Order.Fin.Basic
public import Mathlib.Order.Interval.Finset.Fin

@[expose] public section

noncomputable section

namespace Cert.Rank

open Finset

/-- One if the entry reaches the threshold, zero if it does not. -/
def hit (t v : EReal) : ℕ := if t ≤ v then 1 else 0

/-- How many entries of the column `x` are at least `t`. -/
def reach {n : ℕ} (x : Fin n → EReal) (t : EReal) : ℕ := ∑ i, hit t (x i)

/-- The count as the size of the set of entries that reach the threshold. -/
theorem reach_eq_card {n : ℕ} (x : Fin n → EReal) (t : EReal) :
    reach x t = (univ.filter fun i => t ≤ x i).card := by
  unfold reach hit
  rw [card_filter]

/-- The bottom value reaches no threshold above it. -/
theorem hit_bot {t : EReal} (ht : t ≠ ⊥) : hit t ⊥ = 0 := by
  unfold hit
  rw [if_neg]
  rwa [le_bot_iff]

/-- Two values that lie above the same thresholds, the bottom one aside, are equal. -/
theorem eq_of_thresholds {v w : EReal} (h : ∀ t : EReal, t ≠ ⊥ → (t ≤ v ↔ t ≤ w)) : v = w := by
  apply le_antisymm
  · by_cases hv : v = ⊥
    · rw [hv]; exact bot_le
    · exact (h v hv).1 le_rfl
  · by_cases hw : w = ⊥
    · rw [hw]; exact bot_le
    · exact (h w hw).2 le_rfl

/-- The greatest entry reaches a threshold exactly when some entry does. -/
theorem le_greatest_iff {n : ℕ} (x : Fin n → EReal) (a : Fin n) (ha : ∀ i, x i ≤ x a) (t : EReal) :
    t ≤ x a ↔ 0 < reach x t := by
  rw [reach_eq_card, card_pos]
  constructor
  · intro h
    exact ⟨a, by simpa using h⟩
  · rintro ⟨i, hi⟩
    exact (by simpa using hi : t ≤ x i).trans (ha i)

/-- Lowering a greatest entry to the bottom takes one off every positive count. -/
theorem reach_lowered {n : ℕ} (x : Fin n → EReal) (a : Fin n) (ha : ∀ i, x i ≤ x a) {t : EReal} (ht : t ≠ ⊥) :
    reach (fun i => if i = a then ⊥ else x i) t = reach x t - 1 := by
  have hrest : ∑ i ∈ univ.erase a, hit t (if i = a then ⊥ else x i) = ∑ i ∈ univ.erase a, hit t (x i) :=
    sum_congr rfl fun i hi => by rw [if_neg (ne_of_mem_erase hi)]
  have h1 : reach (fun i => if i = a then ⊥ else x i) t = ∑ i ∈ univ.erase a, hit t (x i) := by
    unfold reach
    rw [← add_sum_erase univ _ (mem_univ a), hrest]
    simp only [if_true, hit_bot ht, Nat.zero_add]
  have h2 : reach x t = hit t (x a) + ∑ i ∈ univ.erase a, hit t (x i) := by
    unfold reach
    rw [← add_sum_erase univ _ (mem_univ a)]
  by_cases h : t ≤ x a
  · have : hit t (x a) = 1 := if_pos h
    omega
  · have h0 : reach x t = 0 := by
      by_contra hne
      exact h ((le_greatest_iff x a ha t).2 (Nat.pos_of_ne_zero hne))
    omega

/-- `y` is a run of rounds: each round has a greatest entry, and the next column is this one with that entry lowered to
    the bottom. -/
def Rounds {n : ℕ} (y : ℕ → Fin n → EReal) (top : ℕ → EReal) : Prop :=
  ∀ r, ∃ a : Fin n, top r = y r a ∧ (∀ i, y r i ≤ y r a) ∧ ∀ i, y (r + 1) i = if i = a then ⊥ else y r i

/-- After `r` rounds every count is `r` less (never below zero). -/
theorem Rounds.reach_eq {n : ℕ} {y : ℕ → Fin n → EReal} {top : ℕ → EReal} (h : Rounds y top) {t : EReal} (ht : t ≠ ⊥)
    (r : ℕ) : reach (y r) t = reach (y 0) t - r := by
  induction r with
  | zero => rfl
  | succ r ih =>
    obtain ⟨a, -, ha, hs⟩ := h r
    rw [funext hs, reach_lowered (y r) a ha ht, ih, Nat.sub_sub]

/-- The greatest entry of round `r` reaches a threshold exactly when more than `r` entries of the first column do. -/
theorem Rounds.le_top_iff {n : ℕ} {y : ℕ → Fin n → EReal} {top : ℕ → EReal} (h : Rounds y top) {t : EReal}
    (ht : t ≠ ⊥) (r : ℕ) : t ≤ top r ↔ r < reach (y 0) t := by
  obtain ⟨a, e, ha, -⟩ := h r
  rw [e, le_greatest_iff (y r) a ha t, h.reach_eq ht r]
  omega

/-- If the entries `x r` reach a threshold exactly when `r < C`, then `min n C` of the `n` entries reach it. -/
theorem reach_of_ranks {n : ℕ} (x : Fin n → EReal) (t : EReal) (C : ℕ) (h : ∀ r : Fin n, t ≤ x r ↔ r.val < C) :
    reach x t = min n C := by
  have e : reach x t = ∑ i ∈ range n, (if i < C then 1 else 0) := by
    unfold reach
    rw [← Fin.sum_univ_eq_sum_range (fun i => if i < C then 1 else 0) n]
    refine sum_congr rfl fun r _ => ?_
    unfold hit
    simp only [h r]
  rw [e, ← card_filter]
  have : (range n).filter (fun i => i < C) = range (min n C) := by
    ext i
    simp [mem_filter, mem_range, lt_min_iff]
  rw [this, card_range]

/-- A sorted column: the entry at place `r`, greatest first, reaches a threshold exactly when more than `r` entries do. -/
theorem le_sorted_iff {n : ℕ} (f : Fin n → EReal) (hf : ∀ i j : Fin n, i < j → f j ≤ f i) (r : Fin n) (t : EReal) :
    t ≤ f r ↔ r.val < reach f t := by
  have mono : ∀ i j : Fin n, i ≤ j → f j ≤ f i := fun i j hij => by
    rcases hij.lt_or_eq with h | h
    · exact hf i j h
    · rw [h]
  rw [reach_eq_card]
  constructor
  · intro h
    have hs : Finset.Iic r ⊆ univ.filter fun i => t ≤ f i := fun i hi => by
      simpa using h.trans (mono i r (by simpa using hi))
    have := card_le_card hs
    rw [Fin.card_Iic] at this
    omega
  · intro h
    by_contra hn
    have hs : (univ.filter fun i => t ≤ f i) ⊆ Finset.Iio r := fun i hi => by
      have hi' : t ≤ f i := by simpa using hi
      simp only [Finset.mem_Iio]
      by_contra hir
      exact hn (hi'.trans (mono r i (not_lt.1 hir)))
    have := card_le_card hs
    rw [Fin.card_Iio] at this
    omega

/-- Reordering a column does not change its counts. -/
theorem reach_reordered {n : ℕ} (x : Fin n → EReal) (π : Fin n → Fin n) (hπ : Function.Bijective π) (t : EReal) :
    reach (fun i => x (π i)) t = reach x t :=
  Function.Bijective.sum_comp hπ fun i => hit t (x i)

/-- The counts of a column made of two columns, one after the other, add up. -/
theorem reach_joined {a b n : ℕ} (hn : n = a + b) (x : Fin n → EReal) (t : EReal) :
    reach x t = reach (fun i : Fin a => x ⟨i.val, by omega⟩) t + reach (fun i : Fin b => x ⟨a + i.val, by omega⟩) t := by
  subst hn
  exact Fin.sum_univ_add fun i => hit t (x i)

/-- How many of the first `p` entries of the column reach the threshold. -/
def seen {n : ℕ} (x : Fin n → EReal) (t : EReal) (p : ℕ) : ℕ :=
  ∑ i ∈ range p, if h : i < n then hit t (x ⟨i, h⟩) else 0

/-- Of no entries, none. -/
theorem seen_zero {n : ℕ} (x : Fin n → EReal) (t : EReal) : seen x t 0 = 0 := rfl

/-- Of all entries, the column's count. -/
theorem seen_all {n : ℕ} (x : Fin n → EReal) (t : EReal) : seen x t n = reach x t := by
  unfold seen reach
  rw [← Fin.sum_univ_eq_sum_range (fun i => if h : i < n then hit t (x ⟨i, h⟩) else 0) n]
  exact sum_congr rfl fun i _ => dif_pos i.isLt

/-- After `b` more entries, the count grows by those entries' own. -/
theorem seen_add {n : ℕ} (x : Fin n → EReal) (t : EReal) (a b : ℕ) (h : a + b ≤ n) :
    seen x t (a + b) = seen x t a + reach (fun i : Fin b => x ⟨a + i.val, by omega⟩) t := by
  unfold seen reach
  rw [sum_range_add, ← Fin.sum_univ_eq_sum_range (fun i => if h : a + i < n then hit t (x ⟨a + i, h⟩) else 0) b]
  exact congrArg _ (sum_congr rfl fun i _ => dif_pos (by have := i.isLt; omega))

end Cert.Rank
-- ==== Proof.Rounds.lean ====
/-
  One round of the kernel on a block of 1034 rows, over the extended reals.

  A round takes the greatest entry of every column, finds the first row where the column equals it, and puts the bottom
  value there. Ten rounds give the ten rows the kernel keeps. This module names the two parts of a round (`greatest`,
  `lowered`), reads them at one column, and shows that the rows of what the kernel's body stores are the greatest
  entries of the rounds.
-/
module

public import proofs.«01_k».proof.Proof.Rank
public import proofs.«01_k».proof.Proof.Gen.KernelIdeal.Skeleton
public import Idealize.ShloMosaic.Lib.Pipeline.Value
public import Idealize.ShloMosaic.Lib.ValueLayout
public import Idealize.ShloMosaic.Lib.WordCmp
public import Idealize.ShloMosaic.PureOps.Ideal.Laws
public import Idealize.ShloMosaic.PureOps.Reduce

@[expose] public section

noncomputable section

namespace Cert.Rounds

open Cert.KernelIdeal Cert.KernelIdeal.Gen Idealize.ShloMosaic Idealize.ShloMosaic.ValueIdx

section Named

variable {F : FTy → Type} [FloatOps F]

/-- The row numbers of the block. -/
def rows : IVec S1034x256 32 := iota .tc S1034x256 32 [0] iota_S1034x256_d0_w32

/-- The greatest entry of every column, as one row. -/
def greatest (v : FVec F S1034x256 .f32) : FVec F S1x256 .f32 :=
  shapeCast S1x256 (multiReduction .maximumf [0] S256 v 0xFF800000#32 reduces_S1034x256_S256 (.inl rfl) rfl)
    shapeCasts_S256_S1x256

/-- The row number where the column equals its greatest entry, and 1034 elsewhere. -/
def places (v : FVec F S1034x256 .f32) : IVec S1034x256 32 :=
  select (cmpf .oeq v (broadcastTo S1034x256 (greatest v) broadcasts_S1x256_S1034x256)) rows (broadcast S1034x256 1034#32)

/-- The least of those numbers in every column, as one row. -/
def first (v : FVec F S1034x256 .f32) : IVec S1x256 32 :=
  shapeCast S1x256 (multiReductionI .minsi [0] S256 (places v) 2147483647#32 reduces_S1034x256_S256 rfl)
    shapeCasts_S256_S1x256

/-- The block with the bottom value at the first place of every column's greatest entry. -/
def lowered (v : FVec F S1034x256 .f32) : FVec F S1034x256 .f32 :=
  select (cmpi .eq rows (broadcastTo S1034x256 (first v) broadcasts_S1x256_S1034x256))
    (broadcast S1034x256 (Scalar.ofBits .f32 0xFF800000#32)) v

/-- The block before round `r`. -/
def block (v : FVec F S1034x256 .f32) : ℕ → FVec F S1034x256 .f32
  | 0 => v
  | r + 1 => lowered (block v r)

/-- What the body stores from the ten rows it holds and the chunk of 1024 rows it reads. -/
def stored (acc : Vec F S1x10x256 .f32) (x : Vec F S1x1024x256 .f32) : FVec F S1x10x256 .f32 :=
  k0_pay1 (iota .tc S1034x256 32 [0] iota_S1034x256_d0_w32) (k0_pay4 acc x) (k0_pay6 acc x) (k0_pay8 acc x)
    (k0_pay11 (iota .tc S1034x256 32 [0] iota_S1034x256_d0_w32) (k0_pay7 acc x) (k0_pay9 acc x))
    (k0_pay13 (iota .tc S1034x256 32 [0] iota_S1034x256_d0_w32) (k0_pay7 acc x) (k0_pay9 acc x))
    (k0_pay15 (iota .tc S1034x256 32 [0] iota_S1034x256_d0_w32) (k0_pay7 acc x) (k0_pay9 acc x))
    (k0_pay16 (iota .tc S1034x256 32 [0] iota_S1034x256_d0_w32) (k0_pay7 acc x) (k0_pay9 acc x))
    (k0_pay17 (iota .tc S1034x256 32 [0] iota_S1034x256_d0_w32) (k0_pay7 acc x) (k0_pay9 acc x))
    (k0_pay18 (iota .tc S1034x256 32 [0] iota_S1034x256_d0_w32) (k0_pay7 acc x) (k0_pay9 acc x))

section Parts

variable (acc : Vec F S1x10x256 .f32) (x : Vec F S1x1024x256 .f32)

/-- The body's first maximum is round 0's. -/
theorem pay4_eq : k0_pay4 acc x = greatest (k0_pay3 acc x) := rfl
/-- The block after one round. -/
theorem pay5_eq : k0_pay5 acc x = lowered (k0_pay3 acc x) := rfl
/-- The body's second maximum. -/
theorem pay6_eq : k0_pay6 acc x = greatest (k0_pay5 acc x) := rfl
/-- The block after two rounds. -/
theorem pay7_eq : k0_pay7 acc x = lowered (k0_pay5 acc x) := rfl
/-- The body's third maximum. -/
theorem pay8_eq : k0_pay8 acc x = greatest (k0_pay7 acc x) := rfl
/-- The row numbers compared in the third round. -/
theorem pay9_eq : k0_pay9 acc x = places (k0_pay7 acc x) := rfl

end Parts

section Later

variable (v : FVec F S1034x256 .f32)

/-- The block after a round begun from the compared row numbers. -/
theorem pay10_eq : k0_pay10 rows v (places v) = lowered v := rfl
/-- The maximum of that block. -/
theorem pay11_eq : k0_pay11 rows v (places v) = greatest (lowered v) := by
  rw [← pay10_eq]; rfl
/-- The block one round later. -/
theorem pay12_eq : k0_pay12 rows v (places v) = lowered (lowered v) := by
  rw [← pay10_eq v]; rfl
/-- Its maximum. -/
theorem pay13_eq : k0_pay13 rows v (places v) = greatest (lowered (lowered v)) := by
  rw [← pay12_eq]; rfl
/-- The block two rounds later. -/
theorem pay14_eq : k0_pay14 rows v (places v) = lowered (lowered (lowered v)) := by
  rw [← pay12_eq]; rfl
/-- Its maximum. -/
theorem pay15_eq : k0_pay15 rows v (places v) = greatest (lowered (lowered (lowered v))) := by
  rw [← pay14_eq]; rfl
/-- The block three rounds later. -/
theorem pay16_eq : k0_pay16 rows v (places v) = lowered (lowered (lowered (lowered v))) := by
  rw [← pay14_eq]; rfl
/-- Its maximum. -/
theorem pay17_eq : k0_pay17 rows v (places v) = greatest (lowered (lowered (lowered (lowered v)))) := by
  rw [← pay16_eq]; rfl
/-- That maximum on every row. -/
theorem pay18_eq : k0_pay18 rows v (places v)
    = broadcastTo S1034x256 (greatest (lowered (lowered (lowered (lowered v))))) broadcasts_S1x256_S1034x256 := by
  rw [← pay17_eq]; rfl

end Later

/-- Ten one-row arrays, one under the other. -/
def stacked (f : Fin 10 → FVec F S1x256 .f32) : FVec F S1x10x256 .f32 :=
  shapeCast S1x10x256 (concatenate S10x256 0 [⟨S1x256, f 0⟩, ⟨S1x256, f 1⟩, ⟨S1x256, f 2⟩, ⟨S1x256, f 3⟩, ⟨S1x256, f 4⟩,
      ⟨S1x256, f 5⟩, ⟨S1x256, f 6⟩, ⟨S1x256, f 7⟩, ⟨S1x256, f 8⟩, ⟨S1x256, f 9⟩]
    concatenates_S1x256_S1x256_S1x256_S1x256_S1x256_S1x256_S1x256_S1x256_S1x256_S1x256_S10x256_d0) shapeCasts_S10x256_S1x10x256

/-- Ten one-row arrays given one by one, one under the other. -/
def under (a b c d e f g h k l : FVec F S1x256 .f32) : FVec F S1x10x256 .f32 :=
  shapeCast S1x10x256 (concatenate S10x256 0 [⟨S1x256, a⟩, ⟨S1x256, b⟩, ⟨S1x256, c⟩, ⟨S1x256, d⟩, ⟨S1x256, e⟩,
      ⟨S1x256, f⟩, ⟨S1x256, g⟩, ⟨S1x256, h⟩, ⟨S1x256, k⟩, ⟨S1x256, l⟩]
    concatenates_S1x256_S1x256_S1x256_S1x256_S1x256_S1x256_S1x256_S1x256_S1x256_S1x256_S10x256_d0) shapeCasts_S10x256_S1x10x256

/-- The last part of the body: the three remaining rounds, and the ten maxima stacked. -/
theorem pay1_eq (a b c d e f g : FVec F S1x256 .f32) (w : FVec F S1034x256 .f32) :
    k0_pay1 rows a b c d e f w g (broadcastTo S1034x256 (greatest w) broadcasts_S1x256_S1034x256)
      = under a b c d e f g (greatest (lowered w)) (greatest (lowered (lowered w)))
          (greatest (lowered (lowered (lowered w)))) := by
  unfold k0_pay1
  exact rfl

/-- The body stores the greatest entries of ten rounds on the ten rows it holds and the chunk together. -/
theorem stored_eq (acc : Vec F S1x10x256 .f32) (x : Vec F S1x1024x256 .f32) :
    stored acc x = stacked fun r => greatest (block (k0_pay3 acc x) r.val) := by
  have h : stored acc x = k0_pay1 rows (k0_pay4 acc x) (k0_pay6 acc x) (k0_pay8 acc x)
      (k0_pay11 rows (k0_pay7 acc x) (k0_pay9 acc x)) (k0_pay13 rows (k0_pay7 acc x) (k0_pay9 acc x))
      (k0_pay15 rows (k0_pay7 acc x) (k0_pay9 acc x)) (k0_pay16 rows (k0_pay7 acc x) (k0_pay9 acc x))
      (k0_pay17 rows (k0_pay7 acc x) (k0_pay9 acc x)) (k0_pay18 rows (k0_pay7 acc x) (k0_pay9 acc x)) := rfl
  refine h.trans ?_
  rw [pay9_eq, pay11_eq, pay13_eq, pay15_eq, pay16_eq, pay17_eq, pay18_eq]
  refine (pay1_eq _ _ _ _ _ _ _ _).trans ?_
  rw [pay8_eq, pay7_eq, pay6_eq, pay5_eq, pay4_eq]
  exact rfl

/-- Row `r` of the stack is the `r`-th array. -/
theorem stacked_apply (f : Fin 10 → FVec F S1x256 .f32) (u : Fin 1) (r : Fin 10) (j : Fin 256) :
    stacked f (ix3 u r j) = f r (ix2 (0 : Fin 1) j) := by
  unfold stacked
  refine (shapeCast_ab_1ab_apply _ _ u r j).trans ?_
  refine concatenate_ofFn_unit_apply (t := S10x256) (s₁ := S1x256) 0 f
    concatenates_S1x256_S1x256_S1x256_S1x256_S1x256_S1x256_S1x256_S1x256_S1x256_S1x256_S10x256_d0
    rfl rfl (ix2 r j) r rfl (ix2 (0 : Fin 1) j) fun b hb => ?_
  match b with
  | ⟨0, _⟩ => exact absurd rfl hb
  | ⟨1, _⟩ => rfl

end Named

/-! ## A round at one column -/

/-- A left fold of the maximum from the bottom value is above every entry it passes, and is one of them or the bottom. -/
theorem foldl_max {ι : Type} (f : ι → EReal) (l : List ι) (b : EReal) :
    b ≤ l.foldl (fun acc i => max acc (f i)) b ∧ (∀ i ∈ l, f i ≤ l.foldl (fun acc i => max acc (f i)) b)
      ∧ (l.foldl (fun acc i => max acc (f i)) b = b ∨ ∃ i ∈ l, l.foldl (fun acc i => max acc (f i)) b = f i) := by
  induction l generalizing b with
  | nil => exact ⟨le_rfl, fun i hi => absurd hi List.not_mem_nil, Or.inl rfl⟩
  | cons a l ih =>
    obtain ⟨h1, h2, h3⟩ := ih (max b (f a))
    simp only [List.foldl_cons]
    refine ⟨(le_max_left _ _).trans h1, fun i hi => ?_, ?_⟩
    · rcases List.mem_cons.1 hi with rfl | hi
      · exact (le_max_right _ _).trans h1
      · exact h2 i hi
    · rcases h3 with h3 | ⟨i, hi, h3⟩
      · rcases max_choice b (f a) with e | e
        · exact Or.inl (h3.trans e)
        · exact Or.inr ⟨a, List.mem_cons_self, h3.trans e⟩
      · exact Or.inr ⟨i, List.mem_cons_of_mem _ hi, h3⟩

/-- A left fold of the signed minimum is below every word it passes, and is one of them or the starting word. -/
theorem foldl_minsi {ι : Type} (f : ι → BitVec 32) (l : List ι) (b : BitVec 32) :
    (l.foldl (fun acc i => IntOp.minsi acc (f i)) b).toInt ≤ b.toInt
      ∧ (∀ i ∈ l, (l.foldl (fun acc i => IntOp.minsi acc (f i)) b).toInt ≤ (f i).toInt)
      ∧ (l.foldl (fun acc i => IntOp.minsi acc (f i)) b = b ∨ ∃ i ∈ l, l.foldl (fun acc i => IntOp.minsi acc (f i)) b = f i) := by
  have hmin : ∀ x y : BitVec 32, (IntOp.minsi x y).toInt ≤ x.toInt ∧ (IntOp.minsi x y).toInt ≤ y.toInt
      ∧ (IntOp.minsi x y = x ∨ IntOp.minsi x y = y) := fun x y => by
    unfold IntOp.minsi
    by_cases h : x.slt y = true
    · rw [if_pos h]
      rw [BitVec.slt_iff_toInt_lt] at h
      exact ⟨le_rfl, h.le, Or.inl rfl⟩
    · rw [if_neg h]
      rw [BitVec.slt_iff_toInt_lt] at h
      exact ⟨not_lt.1 h, le_rfl, Or.inr rfl⟩
  induction l generalizing b with
  | nil => exact ⟨le_rfl, fun i hi => absurd hi List.not_mem_nil, Or.inl rfl⟩
  | cons a l ih =>
    obtain ⟨h1, h2, h3⟩ := ih (IntOp.minsi b (f a))
    obtain ⟨m1, m2, m3⟩ := hmin b (f a)
    simp only [List.foldl_cons]
    refine ⟨h1.trans m1, fun i hi => ?_, ?_⟩
    · rcases List.mem_cons.1 hi with rfl | hi
      · exact h1.trans m2
      · exact h2 i hi
    · rcases h3 with h3 | ⟨i, hi, h3⟩
      · rcases m3 with e | e
        · exact Or.inl (h3.trans e)
        · exact Or.inr ⟨a, List.mem_cons_self, h3.trans e⟩
      · exact Or.inr ⟨i, List.mem_cons_of_mem _ hi, h3⟩

/-- A small number's word reads back, signed, as the number. -/
theorem ofNat_toInt {n : ℕ} (h : n < 2147483648) : (BitVec.ofNat 32 n).toInt = n := by
  rw [BitVec.toInt_eq_toNat_cond, BitVec.toNat_ofNat]
  omega

/-- The word for minus infinity is the bottom of the extended reals. -/
theorem ofBits_negInf : (FloatOps.ofBits .f32 0xFF800000#32 : Ideal .f32) = (⊥ : EReal) := by
  show Ideal.ofBits .f32 0xFF800000#32 = ⊥
  simp [Ideal.ofBits, Ideal.ieee]

/-- The index the reduction over rows reads: row `n` of column `j`. -/
theorem pair_col (h : S1034x256.Reduces [0] S256) (n : Fin 1034) (j : Fin 256) :
    Shape.pair n (h.col (ix1 j)) = (ix2 n j : S1034x256.Idx) := by
  funext a
  match a with
  | ⟨0, _⟩ => rfl
  | ⟨1, _⟩ => rfl

section Column

variable (v : FVec Ideal S1034x256 .f32) (j : Fin 256)

/-- The greatest entry of a column is one of its entries and above them all. -/
theorem greatest_apply : ∃ a : Fin 1034, greatest v (ix2 (0 : Fin 1) j) = v (ix2 a j)
    ∧ ∀ n : Fin 1034, v (ix2 n j) ≤ v (ix2 a j) := by
  have e : greatest v (ix2 (0 : Fin 1) j)
      = (List.finRange 1034).foldl (fun acc n => max acc (v (ix2 n j))) (⊥ : EReal) := by
    unfold greatest
    refine (shapeCast_a_1a_apply _ _ 0 j).trans ?_
    refine (reduceFold_rows reduces_S1034x256_S256 (FloatOps.maximumf (F := Ideal) (φ := .f32))
      (FloatOps.ofBits .f32 0xFF800000#32) v (ix1 j)).trans ?_
    rw [ofBits_negInf]
    exact congrArg (fun f : EReal → Fin 1034 → EReal => (List.finRange 1034).foldl f ⊥)
      (funext fun acc => funext fun n => congrArg (fun i : S1034x256.Idx => max acc (v i)) (pair_col _ n j))
  rw [e]
  obtain ⟨-, h2, h3⟩ := foldl_max (fun n : Fin 1034 => v (ix2 n j)) (List.finRange 1034) ⊥
  rcases h3 with h3 | ⟨a, -, h3⟩
  · refine ⟨0, ?_, fun n => ?_⟩
    · exact le_antisymm (h3.le.trans bot_le) (h2 0 (List.mem_finRange 0))
    · have := h2 n (List.mem_finRange n)
      rw [h3, le_bot_iff] at this
      exact this.le.trans bot_le
  · exact ⟨a, h3, fun n => h3 ▸ h2 n (List.mem_finRange n)⟩

/-- Where the column equals its greatest entry the compared number is the row's, and 1034 elsewhere. -/
theorem places_apply (n : Fin 1034) : places v (ix2 n j)
    = if v (ix2 n j) = greatest v (ix2 (0 : Fin 1) j) then BitVec.ofNat 32 n.val else 1034#32 := by
  have e : broadcastTo S1034x256 (greatest v) broadcasts_S1x256_S1034x256 (ix2 n j) = greatest v (ix2 (0 : Fin 1) j) :=
    broadcastTo_1b_ab_apply _ _ n j
  have r : rows (ix2 n j) = BitVec.ofNat 32 n.val := iota_single_apply _ _ _ _ _ _
  show Scalar.select (Ideal.cmp .oeq (v (ix2 n j)) (broadcastTo S1034x256 (greatest v) broadcasts_S1x256_S1034x256 (ix2 n j)))
    (rows (ix2 n j)) (1034#32) = _
  rw [e, r]
  show Scalar.select (BitVec.ofBool (decide (v (ix2 n j) = greatest v (ix2 (0 : Fin 1) j)))) _ _ = _
  by_cases h : v (ix2 n j) = greatest v (ix2 (0 : Fin 1) j)
  · simp [Scalar.select, h]
  · simp [Scalar.select, h]

/-- The least compared number of a column is a row number at which the column equals its greatest entry. -/
theorem first_apply : ∃ a : Fin 1034, first v (ix2 (0 : Fin 1) j) = BitVec.ofNat 32 a.val
    ∧ v (ix2 a j) = greatest v (ix2 (0 : Fin 1) j) := by
  have e : first v (ix2 (0 : Fin 1) j)
      = (List.finRange 1034).foldl (fun acc n => IntOp.minsi acc (places v (ix2 n j))) 2147483647#32 := by
    unfold first
    refine (shapeCast_a_1a_apply _ _ 0 j).trans ?_
    refine (reduceFold_rows reduces_S1034x256_S256 IntOp.minsi 2147483647#32 (places v) (ix1 j)).trans ?_
    exact congrArg (fun f : BitVec 32 → Fin 1034 → BitVec 32 => (List.finRange 1034).foldl f 2147483647#32)
      (funext fun acc => funext fun n => congrArg (fun i : S1034x256.Idx => IntOp.minsi acc (places v i)) (pair_col _ n j))
  obtain ⟨a, ha, -⟩ := greatest_apply v j
  obtain ⟨-, h2, h3⟩ := foldl_minsi (fun n : Fin 1034 => places v (ix2 n j)) (List.finRange 1034) 2147483647#32
  rw [← e] at h2 h3
  have hle := h2 a (List.mem_finRange a)
  rw [places_apply, if_pos ha.symm, ofNat_toInt (by have := a.isLt; omega)] at hle
  have ha' := a.isLt
  rcases h3 with h3 | ⟨i, -, h3⟩
  · rw [h3] at hle
    have : (2147483647#32 : BitVec 32).toInt = 2147483647 := by decide
    omega
  · rw [places_apply] at h3
    by_cases hi : v (ix2 i j) = greatest v (ix2 (0 : Fin 1) j)
    · rw [if_pos hi] at h3
      exact ⟨i, h3, hi⟩
    · rw [if_neg hi] at h3
      rw [h3] at hle
      have : (1034#32 : BitVec 32).toInt = 1034 := by decide
      omega

/-- A round at one column: some row holds the column's greatest entry, and the round puts the bottom value there and
    leaves the other rows as they are. -/
theorem round_apply : ∃ a : Fin 1034, greatest v (ix2 (0 : Fin 1) j) = v (ix2 a j)
    ∧ (∀ n : Fin 1034, v (ix2 n j) ≤ v (ix2 a j))
    ∧ ∀ n : Fin 1034, lowered v (ix2 n j) = if n = a then (⊥ : EReal) else v (ix2 n j) := by
  obtain ⟨b, hb, hmax⟩ := greatest_apply v j
  obtain ⟨a, ha, hv⟩ := first_apply v j
  refine ⟨a, hv.symm, fun n => ?_, fun n => ?_⟩
  · rw [hv, hb]; exact hmax n
  · have e : broadcastTo S1034x256 (first v) broadcasts_S1x256_S1034x256 (ix2 n j) = first v (ix2 (0 : Fin 1) j) :=
      broadcastTo_1b_ab_apply _ _ n j
    have r : rows (ix2 n j) = BitVec.ofNat 32 n.val := iota_single_apply _ _ _ _ _ _
    show Scalar.select (IntOp.cmpi .eq (rows (ix2 n j)) (broadcastTo S1034x256 (first v) broadcasts_S1x256_S1034x256 (ix2 n j)))
      (FloatOps.ofBits .f32 0xFF800000#32 : Ideal .f32) (v (ix2 n j)) = _
    rw [e, r, ha, ofBits_negInf]
    have hn := n.isLt
    have ha' := a.isLt
    by_cases h : n = a
    · subst h
      simp [Scalar.select, IntOp.cmpi]
    · have hne : BitVec.ofNat 32 n.val ≠ BitVec.ofNat 32 a.val := fun hh => h (Fin.ext (by
        have := congrArg BitVec.toNat hh
        simp only [BitVec.toNat_ofNat] at this
        omega))
      have hb : (BitVec.ofNat 32 n.val == BitVec.ofNat 32 a.val) = false := beq_eq_false_iff_ne.2 hne
      simp [Scalar.select, IntOp.cmpi, h, hb]

/-- The blocks before the rounds, read at one column, are a run of rounds. -/
theorem block_rounds : Rank.Rounds (fun r (n : Fin 1034) => (block v r (ix2 n j) : EReal))
    (fun r => greatest (block v r) (ix2 (0 : Fin 1) j)) :=
  fun r => round_apply (block v r) j

end Column

/-! ## What the body stores, by counting -/

/-- The rows the body works on, at one column: the ten it holds, then the chunk's, so the counts add up. -/
theorem reach_joined_block (acc : Vec Ideal S1x10x256 .f32) (x : Vec Ideal S1x1024x256 .f32) (j : Fin 256) (t : EReal) :
    Rank.reach (fun n : Fin 1034 => (k0_pay3 acc x (ix2 n j) : EReal)) t
      = Rank.reach (fun r : Fin 10 => (acc (ix3 (0 : Fin 1) r j) : EReal)) t
        + Rank.reach (fun k : Fin 1024 => (x (ix3 (0 : Fin 1) k j) : EReal)) t := by
  rw [Rank.reach_joined (a := 10) (b := 1024) rfl]
  congr 2
  · funext r
    unfold k0_pay3
    refine (concatenate_pair_apply_left (t := S1034x256) (s₁ := S10x256) (s₂ := S1024x256) _ _ _ _ _ rfl
      (ix2 r j) fun b => ?_).trans (shapeCast_1ab_ab_apply acc shapeCasts_S1x10x256_S10x256 r j)
    match b with
    | ⟨0, _⟩ => rfl
    | ⟨1, _⟩ => rfl
  · funext k
    unfold k0_pay3
    refine (concatenate_pair_apply_right (t := S1034x256) (s₁ := S10x256) (s₂ := S1024x256) _ _ _ _ _ rfl rfl
      (ix2 k j) (fun b hb => ?_) ?_).trans (shapeCast_1ab_ab_apply x shapeCasts_S1x1024x256_S1024x256 k j)
    · match b with
      | ⟨0, _⟩ => exact absurd rfl hb
      | ⟨1, _⟩ => rfl
    · exact Nat.add_comm _ _

/-- If the ten rows the body holds are the ten greatest of `C t` entries for every threshold `t`, what it stores are the
    ten greatest of those and the chunk's entries together. -/
theorem stored_ranks (acc : Vec Ideal S1x10x256 .f32) (x : Vec Ideal S1x1024x256 .f32) (j : Fin 256) (t : EReal)
    (ht : t ≠ ⊥) (C : ℕ) (h : ∀ r : Fin 10, t ≤ (acc (ix3 (0 : Fin 1) r j) : EReal) ↔ r.val < C) (r : Fin 10) :
    t ≤ (stored acc x (ix3 (0 : Fin 1) r j) : EReal)
      ↔ r.val < C + Rank.reach (fun k : Fin 1024 => (x (ix3 (0 : Fin 1) k j) : EReal)) t := by
  rw [stored_eq, stacked_apply, (block_rounds (k0_pay3 acc x) j).le_top_iff ht r.val]
  show r.val < Rank.reach (fun n : Fin 1034 => (k0_pay3 acc x (ix2 n j) : EReal)) t ↔ _
  rw [reach_joined_block, Rank.reach_of_ranks _ t C h]
  have := r.isLt
  omega

/-- The rows a run starts from hold the bottom value. -/
theorem start_apply (u : Fin 1) (r : Fin 10) (j : Fin 256) :
    (k0_pay2 (F := Ideal) (ix3 u r j) : EReal) = ⊥ := by
  unfold k0_pay2
  refine (shapeCast_ab_1ab_apply _ _ u r j).trans ?_
  exact ofBits_negInf

end Cert.Rounds
-- ==== Proof.KernelValue.lean ====
/-
  What the kernel's result array holds, by counting.

  The grid has 32 points for every one of the 8 batches; each point reads 1024 rows of the batch and updates the ten rows
  of the result block. After `p + 1` points the ten rows are the ten greatest of the first `1024 * (p + 1)` entries of
  each column, so after 32 points those of the whole column of 32768 entries.
-/
module

public import proofs.«01_k».proof.Proof.Rounds
public import proofs.«01_k».proof.Proof.Gen.KernelIdeal.Value

@[expose] public section

noncomputable section

namespace Cert.KernelRanks

open Cert.KernelIdeal Cert.KernelIdeal.Gen Cert.KernelIdeal.Value
open Idealize.ShloMosaic Idealize.ShloMosaic.TcCoe Idealize.SL.Sem Idealize.ShloMosaic.ValueIdx

variable (m : (ℓ : Loc nD τ sig) → Buf (Elt Ideal) ℓ) (c : Dev nD)

/-- One column of the first argument: batch `b`, feature `j`. -/
def column (b : Fin 8) (j : Fin 256) : Fin 32768 → EReal :=
  fun n => m ((c : Thread nD τ).loc main_arg0) (ix3 b n j)

/-- The block of rows each grid point reads: the batch is the point's number over 32, the block of rows the remainder. -/
theorem input_index (t : Fin cfg0.N) : win0_0.index t (0 : Fin 3) = t.val / 32
    ∧ win0_0.index t (1 : Fin 3) = t.val % 32 ∧ win0_0.index t (2 : Fin 3) = 0 :=
  (by decide +kernel : ∀ t : Fin grid0.N, win0_0.index t (0 : Fin 3) = t.val / 32
    ∧ win0_0.index t (1 : Fin 3) = t.val % 32 ∧ win0_0.index t (2 : Fin 3) = 0) t

/-- The chunk read at point `32 * b + p`, read at an element: an entry of the column. -/
theorem chunk_apply (b : Fin 8) (p : ℕ) (hp : p < 32) (h : 32 * b.val + p < cfg0.N) (k : Fin 1024) (j : Fin 256) :
    (iblk m c 0 ⟨32 * b.val + p, h⟩ (ix3 (0 : Fin 1) k j) : EReal)
      = column m c b j ⟨1024 * p + k.val, by have := k.isLt; omega⟩ := by
  obtain ⟨e0, e1, e2⟩ := input_index ⟨32 * b.val + p, h⟩
  show m ((c : Thread nD τ).loc main_arg0) (((cfg0.win 0).blk ⟨32 * b.val + p, h⟩).view.emb (ix3 (0 : Fin 1) k j)) = _
  unfold column
  congr 1
  funext a
  refine Fin.ext ?_
  refine (Pipeline.Window.rect_emb_val win0_0 ⟨32 * b.val + p, h⟩ (ix3 (0 : Fin 1) k j) a).trans ?_
  match a with
  | ⟨0, _⟩ =>
    show win0_0.index ⟨32 * b.val + p, h⟩ (0 : Fin 3) * 1 + 0 = b.val
    rw [e0]; show (32 * b.val + p) / 32 * 1 + 0 = b.val; omega
  | ⟨1, _⟩ =>
    show win0_0.index ⟨32 * b.val + p, h⟩ (1 : Fin 3) * 1024 + k.val = 1024 * p + k.val
    rw [e1]; show (32 * b.val + p) % 32 * 1024 + k.val = 1024 * p + k.val; omega
  | ⟨2, _⟩ =>
    show win0_0.index ⟨32 * b.val + p, h⟩ (2 : Fin 3) * 256 + j.val = j.val
    rw [e2]; omega

/-- A run's later points store what the body computes from the rows held and the chunk read. -/
theorem step_eq (n : ℕ) (h : n < cfg0.N) (acc : Vec Ideal S1x10x256 .f32) :
    step1 m c n h acc = Rounds.stored acc (iblk m c 0 ⟨n, h⟩) := rfl

/-- A run's first point does the same from rows that hold the bottom value. -/
theorem reset_eq (n : ℕ) (h : n < cfg0.N) :
    reset1 m c n h = Rounds.stored (k0_pay2 (F := Ideal)) (iblk m c 0 ⟨n, h⟩) := rfl

/-- One point: rows that are the ten greatest of the first `1024 * p` entries become those of the first
    `1024 * p + 1024`. -/
theorem point_ranks (b : Fin 8) (p : ℕ) (hp : p < 32) (h : 32 * b.val + p < cfg0.N) (acc : Vec Ideal S1x10x256 .f32)
    (j : Fin 256) (t : EReal) (ht : t ≠ ⊥)
    (hacc : ∀ r : Fin 10, t ≤ (acc (ix3 (0 : Fin 1) r j) : EReal) ↔ r.val < Rank.seen (column m c b j) t (1024 * p))
    (r : Fin 10) :
    t ≤ (Rounds.stored acc (iblk m c 0 ⟨32 * b.val + p, h⟩) (ix3 (0 : Fin 1) r j) : EReal)
      ↔ r.val < Rank.seen (column m c b j) t (1024 * p + 1024) := by
  rw [Rounds.stored_ranks acc _ j t ht _ hacc r, Rank.seen_add _ _ _ _ (by omega),
    funext fun k => chunk_apply m c b p hp h k j]

/-- After `p + 1` points of a batch's run the rows are the ten greatest of the first `1024 * p + 1024` entries. -/
theorem run_ranks (b : Fin 8) (j : Fin 256) (t : EReal) (ht : t ≠ ⊥) (p : ℕ) (hp : p < 32)
    (h : 32 * b.val + p < cfg0.N) (r : Fin 10) :
    t ≤ (Pipeline.accAt (reset1 m c) (step1 m c) (32 * b.val) p h (ix3 (0 : Fin 1) r j) : EReal)
      ↔ r.val < Rank.seen (column m c b j) t (1024 * p + 1024) := by
  induction p generalizing r with
  | zero =>
    rw [Pipeline.accAt_zero, reset_eq]
    refine point_ranks m c b 0 hp h _ j t ht (fun r => ?_) r
    rw [Rounds.start_apply, le_bot_iff]
    exact iff_of_false ht (Nat.not_lt_zero _)
  | succ p ih =>
    rw [Pipeline.accAt_succ, step_eq]
    exact point_ranks m c b (p + 1) hp h _ j t ht (fun r => ih (by omega) _ r) r

/-- The kernel's result: row `r` of a batch and feature is the `r`-th greatest of the whole column. -/
theorem result_ranks (b : Fin 8) (r : Fin 10) (j : Fin 256) (t : EReal) (ht : t ≠ ⊥) :
    t ≤ (G1 m c (ix3 b r j) : EReal) ↔ r.val < Rank.reach (column m c b j) t := by
  have hb := b.isLt
  have hr := r.isLt
  have hj := j.isLt
  have hN : cfg0.N = 256 := N_0
  have hrun : run1Of (ix3 b r j) = b.val := by
    show 1 * (b.val / 1 - 0) + 1 * (r.val / 10 - 0) + 1 * (j.val / 256 - 0) = b.val
    omega
  have hloc : loc1Of (ix3 b r j) = ix3 (0 : Fin 1) r j := by
    funext a
    refine Fin.ext ?_
    match a with
    | ⟨0, _⟩ => exact Nat.mod_one _
    | ⟨1, _⟩ => exact Nat.mod_eq_of_lt hr
    | ⟨2, _⟩ => exact Nat.mod_eq_of_lt hj
  have hsame : ∀ (q : ℕ) (h : 32 * q + 31 < cfg0.N), q = b.val →
      Pipeline.accAt (reset1 m c) (step1 m c) (32 * q) 31 h (ix3 (0 : Fin 1) r j)
        = Pipeline.accAt (reset1 m c) (step1 m c) (32 * b.val) 31 (by omega) (ix3 (0 : Fin 1) r j) := by
    intro q h hq
    subst hq
    rfl
  have hG : G1 m c (ix3 b r j)
      = Pipeline.accAt (reset1 m c) (step1 m c) (32 * b.val) 31 (by omega) (ix3 (0 : Fin 1) r j) := by
    unfold G1
    rw [dif_pos (by rw [hrun]; omega), hloc]
    exact hsame _ _ hrun
  rw [hG, run_ranks m c b j t ht 31 (by decide), ← Rank.seen_all]

end Cert.KernelRanks
-- ==== Proof.ReferenceValue.lean ====
/-
  What the reference's result holds, by counting.

  The reference swaps the last two axes, takes the ten greatest along the last one in descending order, and swaps back.
  Descending order and being a reordering of the column are all that is used of the sort.
-/
module

public import proofs.«01_k».proof.Proof.Rank
public import proofs.«01_k».proof.Proof.Gen.ReferenceIdeal.Run
public import Idealize.ShloMosaic.Lib.Pipeline.Value
public import Idealize.ShloMosaic.Lib.ValueLayout
public import Idealize.ShloMosaic.Lib.SortFacts
public import Idealize.ShloMosaic.PureOps.Ideal.Laws

@[expose] public section

noncomputable section

namespace Cert.ReferenceRanks

open Cert.ReferenceIdeal Cert.ReferenceIdeal.Gen Idealize.ShloMosaic Idealize.ShloMosaic.ValueIdx

/-- Sort places by value, greatest first: place `k` goes before place `k'` when its entry is greater. -/
def before (x : Fin 32768 → EReal) (k k' : Fin 32768) : Bool :=
  Ideal.cmp .ogt (x k) (x k') == 1#1

/-- One place goes before another exactly when its entry is greater. -/
theorem before_iff (x : Fin 32768 → EReal) (k k' : Fin 32768) : before x k k' = true ↔ x k' < x k := by
  show (BitVec.ofBool (decide (x k' < x k)) == 1#1) = true ↔ _
  by_cases h : x k' < x k <;> simp [h]

/-- The opposite: one place does not go before another exactly when its entry is at most the other's. -/
theorem before_false_iff (x : Fin 32768 → EReal) (k k' : Fin 32768) : before x k k' = false ↔ x k ≤ x k' := by
  rw [← not_lt, ← before_iff, Bool.not_eq_true]

/-- The sorted column never increases. -/
theorem sorted_le (x : Fin 32768 → EReal) (i j : Fin 32768) (hij : i < j) :
    x (sortedFrom (before x) j) ≤ x (sortedFrom (before x) i) := by
  have h := sortedFrom_noInversion (before x) (before x)
    (fun a b hab => (before_false_iff x b a).2 ((before_iff x a b).1 hab).le) (fun _ _ h => h)
    (fun a b c hab hbc => (before_false_iff x a c).2
      (((before_false_iff x a b).1 hab).trans ((before_false_iff x b c).1 hbc))) i j hij
  exact (before_false_iff x _ _).1 h

/-- The entry at place `r` of the sorted column is the `r`-th greatest of the column. -/
theorem sorted_ranks (x : Fin 32768 → EReal) (r : Fin 32768) (t : EReal) :
    t ≤ x (sortedFrom (before x) r) ↔ r.val < Rank.reach x t := by
  rw [Rank.le_sorted_iff (fun i => x (sortedFrom (before x) i)) (sorted_le x) r t,
    Rank.reach_reordered x (sortedFrom (before x)) ⟨sortedFrom_injective _, sortedFrom_surjective _⟩ t]

/-- A sort of two operands, its first result at an index: the first operand at the sorted place on the sorted axis. -/
theorem sort2_apply {s : Shape} {α β : Type} (a : Fin s.rank) (cmp : α × β → α × β → BitVec 1) (x : s.Idx → α)
    (y : s.Idx → β) (i : s.Idx) :
    (Host.sort2 s a.val cmp x y).1 i = x (i.along a (sortedFrom (fun k k' =>
      cmp (x (i.along a k), y (i.along a k)) (x (i.along a k'), y (i.along a k')) == 1#1) (i a))) := by
  unfold Host.sort2
  rw [dif_pos a.isLt]

/-- The values of the greatest entries along an axis, at an index: the operand at the sorted place on that axis. -/
theorem topK_values {s t : Shape} {α : Type} (a : Fin s.rank) (gt : α → α → BitVec 1) (x : s.Idx → α)
    (h : s.Slices (fun _ => 0) t) (j : t.Idx) (i : s.Idx) (hi : ∀ b : Fin s.rank, (i b).val = (j (b.cast h.1.symm)).val) :
    (Host.topK t a.val gt x h).1 j
      = x (i.along a (sortedFrom (fun k k' => gt (x (i.along a k)) (x (i.along a k')) == 1#1) (i a))) := by
  unfold Host.topK
  refine (extractStridedSlice_apply _ _ h j i fun b => ?_).trans (sort2_apply a _ x _ i)
  rw [hi b, Nat.zero_add]

/-- Changing the last coordinate of an index. -/
theorem along_last (b : Fin 8) (j : Fin 256) (i k : Fin 32768) :
    Shape.Idx.along (s := S8x256x32768) (ix3 b j i) (2 : Fin 3) k = ix3 b j k := by
  funext a
  match a with
  | ⟨0, _⟩ => rfl
  | ⟨1, _⟩ => rfl
  | ⟨2, _⟩ => rfl

/-- The ten greatest of the last axis, read at an element: an entry of the sorted column. -/
theorem topK_apply (y : S8x256x32768.Idx → EReal) (h : S8x256x32768.Slices (fun _ => 0) S8x256x10) (b : Fin 8) (j : Fin 256)
    (r : Fin 10) :
    (Host.topK S8x256x10 2 (FloatOps.cmpfTotal (F := Ideal) (φ := .f32) .gt) y h).1 (ix3 b j r)
      = y (ix3 b j (sortedFrom (before fun n => y (ix3 b j n)) ⟨r.val, by omega⟩)) := by
  refine (topK_values (s := S8x256x32768) (2 : Fin 3) _ y h (ix3 b j r) (ix3 b j (⟨r.val, by omega⟩ : Fin 32768))
    fun a => ?_).trans ?_
  · match a with
    | ⟨0, _⟩ => rfl
    | ⟨1, _⟩ => rfl
    | ⟨2, _⟩ => rfl
  refine (congrArg y (along_last b j _ _)).trans ?_
  exact congrArg (fun R : Fin 32768 → Fin 32768 → Bool => y (ix3 b j (sortedFrom R ⟨r.val, by omega⟩)))
    (funext fun k => funext fun k' => congrArg₂ (fun u w : S8x256x32768.Idx => Ideal.cmp .ogt (y u) (y w) == 1#1)
      (along_last b j _ k) (along_last b j _ k'))

/-- The reference's result: row `r` of a batch and feature is the `r`-th greatest of the whole column. -/
theorem result_ranks (x : S8x32768x256.Idx → EReal) (b : Fin 8) (r : Fin 10) (j : Fin 256) (t : EReal) :
    t ≤ transpose S8x10x256 [0, 2, 1] ((Host.topK S8x256x10 2 (FloatOps.cmpfTotal (F := Ideal) (φ := .f32) .gt)
        (transpose S8x256x32768 [0, 2, 1] x transposes_S8x32768x256_S8x256x32768_0_2_1)
        sliceFits_S8x256x32768_S8x256x10).1) transposes_S8x256x10_S8x10x256_0_2_1 (ix3 b r j)
      ↔ r.val < Rank.reach (fun n : Fin 32768 => x (ix3 b n j)) t := by
  have e : ∀ n : Fin 32768, transpose S8x256x32768 [0, 2, 1] x transposes_S8x32768x256_S8x256x32768_0_2_1 (ix3 b j n)
      = x (ix3 b n j) := fun n => transpose_ix3_021_apply x _ b j n
  rw [show transpose S8x10x256 [0, 2, 1] ((Host.topK S8x256x10 2 (FloatOps.cmpfTotal (F := Ideal) (φ := .f32) .gt)
        (transpose S8x256x32768 [0, 2, 1] x transposes_S8x32768x256_S8x256x32768_0_2_1)
        sliceFits_S8x256x32768_S8x256x10).1) transposes_S8x256x10_S8x10x256_0_2_1 (ix3 b r j) = _
      from transpose_ix3_021_apply _ _ b r j, topK_apply, e, funext e]
  exact sorted_ranks (fun n => x (ix3 b n j)) ⟨r.val, by omega⟩ t

end Cert.ReferenceRanks
-- ==== Proof.Equation.lean ====
/-
  The kernel's result array is the reference's result.

  Both hold, at batch `b`, row `r` and feature `j`, the value that lies above exactly the thresholds which more than `r`
  entries of the column reach; there is only one such value.
-/
module

public import proofs.«01_k».proof.Proof.KernelValue
public import proofs.«01_k».proof.Proof.ReferenceValue

@[expose] public section

noncomputable section

namespace Cert.Equation

open Idealize.ShloMosaic Idealize.ShloMosaic.TcCoe Idealize.SL.Sem Idealize.ShloMosaic.ValueIdx
open Cert.KernelIdeal (nD τ sig main_arg0)

/-- The reference's result on the kernel's first argument is what the kernel's result array ends holding. -/
theorem result_eq (m : (ℓ : Loc nD τ sig) → Buf (Elt Ideal) ℓ) (c : Dev nD) :
    transpose Cert.ReferenceIdeal.S8x10x256 [0, 2, 1]
        ((Host.topK Cert.ReferenceIdeal.S8x256x10 2 (FloatOps.cmpfTotal (F := Ideal) (φ := .f32) .gt)
          (transpose Cert.ReferenceIdeal.S8x256x32768 [0, 2, 1] (m ((c.tc : Thread nD τ).loc main_arg0))
            Cert.ReferenceIdeal.Gen.facts.transposes_S8x32768x256_S8x256x32768_0_2_1)
          Cert.ReferenceIdeal.Gen.facts.sliceFits_S8x256x32768_S8x256x10).1)
        Cert.ReferenceIdeal.Gen.facts.transposes_S8x256x10_S8x10x256_0_2_1
      = Cert.KernelIdeal.Value.G1 m c := by
  funext i
  rw [eq_ix3 i]
  refine Rank.eq_of_thresholds fun t ht => ?_
  exact (ReferenceRanks.result_ranks (m ((c.tc : Thread nD τ).loc main_arg0)) (i 0) (i 1) (i 2) t).trans
    (KernelRanks.result_ranks m c (i 0) (i 1) (i 2) t ht).symm

end Cert.Equation
-- ==== Proof.lean ====
/-
  The proof of the certificate's claim.

  The two kernel frames are the generated ones, and the reference's frame is its run weakened. The equation of values is
  the kernel's run (its result array ends at `G1`) set beside the reference's run, and the two terms are equal by
  `Equation.result_eq`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference leaves its arguments as they were and ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's, on memories that agree on the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Equation.result_eq m c

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
